-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x8192 : Shape := ⟨3, ![24, 1, 8192]⟩
abbrev S8192x24576 : Shape := ⟨2, ![8192, 24576]⟩
abbrev S24576 : Shape := ⟨1, ![24576]⟩
abbrev S24x8192 : Shape := ⟨2, ![24, 8192]⟩
abbrev S1x24576 : Shape := ⟨2, ![1, 24576]⟩
abbrev S24x24576 : Shape := ⟨2, ![24, 24576]⟩
abbrev S8192x1024 : Shape := ⟨2, ![8192, 1024]⟩
abbrev S1x1024 : Shape := ⟨2, ![1, 1024]⟩
abbrev S24x1024 : Shape := ⟨2, ![24, 1024]⟩
abbrev S24x1x24576 : Shape := ⟨3, ![24, 1, 24576]⟩

abbrev nBuf : Space → Nat
  | .hbm => 9
  | .vmem => 9
  | .smem => 0
  | _ => 0

abbrev bufTy : (tb : Table) → Fin (tcTables nBuf tb) → BufTy
  | .hbm, ⟨0, _⟩ => ⟨S24x1x8192, .bf16⟩
  | .hbm, ⟨1, _⟩ => ⟨S8192x24576, .fp8e4m3⟩
  | .hbm, ⟨2, _⟩ => ⟨S24576, .f32⟩
  | .hbm, ⟨3, _⟩ => ⟨S24576, .f32⟩
  | .hbm, ⟨4, _⟩ => ⟨S24x8192, .bf16⟩
  | .hbm, ⟨5, _⟩ => ⟨S1x24576, .f32⟩
  | .hbm, ⟨6, _⟩ => ⟨S1x24576, .f32⟩
  | .hbm, ⟨7, _⟩ => ⟨S24x24576, .bf16⟩
  | .hbm, ⟨8, _⟩ => ⟨S24x1x24576, .bf16⟩
  | .local _ .vmem, ⟨0, _⟩ => ⟨S24x8192, .bf16⟩
  | .local _ .vmem, ⟨1, _⟩ => ⟨S8192x1024, .fp8e4m3⟩
  | .local _ .vmem, ⟨2, _⟩ => ⟨S8192x1024, .fp8e4m3⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S24x1024, .bf16⟩
  | .local _ .vmem, ⟨8, _⟩ => ⟨S24x1024, .bf16⟩
  | _, _ => ⟨S24x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24x1x8192 : Shape := ⟨3, ![24, 1, 8192]⟩
abbrev S8192x24576 : Shape := ⟨2, ![8192, 24576]⟩
abbrev S24576 : Shape := ⟨1, ![24576]⟩
abbrev S24x1x24576 : Shape := ⟨3, ![24, 1, 24576]⟩
abbrev S1x1x24576 : Shape := ⟨3, ![1, 1, 24576]⟩

abbrev nBuf : Space → Nat
  | .hbm => 13
  | .vmem => 2
  | .smem => 0
  | _ => 0

abbrev bufTy : (tb : Table) → Fin (tcTables nBuf tb) → BufTy
  | .hbm, ⟨0, _⟩ => ⟨S24x1x8192, .bf16⟩
  | .hbm, ⟨1, _⟩ => ⟨S8192x24576, .fp8e4m3⟩
  | .hbm, ⟨2, _⟩ => ⟨S24576, .f32⟩
  | .hbm, ⟨3, _⟩ => ⟨S24576, .f32⟩
  | .hbm, ⟨4, _⟩ => ⟨S8192x24576, .bf16⟩
  | .hbm, ⟨5, _⟩ => ⟨S24x1x24576, .f32⟩
  | .hbm, ⟨6, _⟩ => ⟨S1x1x24576, .f32⟩
  | .hbm, ⟨7, _⟩ => ⟨S24x1x24576, .f32⟩
  | .hbm, ⟨8, _⟩ => ⟨S24x1x24576, .f32⟩
  | .hbm, ⟨9, _⟩ => ⟨S1x1x24576, .f32⟩
  | .hbm, ⟨10, _⟩ => ⟨S24x1x24576, .f32⟩
  | .hbm, ⟨11, _⟩ => ⟨S24x1x24576, .f32⟩
  | .hbm, ⟨12, _⟩ => ⟨S24x1x24576, .bf16⟩
  | .local _ .vmem, ⟨0, _⟩ => ⟨S8192x24576, .fp8e4m3⟩
  | .local _ .vmem, ⟨1, _⟩ => ⟨S8192x24576, .bf16⟩
  | _, _ => ⟨S24x1x8192, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x24576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x24576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelValue.lean ====
/- What the kernel's result array holds at the ideal instance: every grid point writes one block of
   `rows`, the product of the activations with the decoded weights, scaled and shifted column by column. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The linear layer on extended reals, at row `r` and column `n`: `(∑ k, x r k * w k n) * s n + b n`. -/
def rows (x : FVec Ideal S24x1x8192 .bf16) (w : FVec Ideal S8192x24576 .fp8e4m3) (s b : FVec Ideal S24576 .f32) :
    FVec Ideal S24x24576 .bf16 :=
  fun i => ((∑ k : Fin 8192, x (ix3 (i 0) 0 k) * w (ix2 k (i 1))) * s (ix1 (i 1)) + b (ix1 (i 1)) : EReal)

/-- The windows' index maps in closed form: point `t` reads all the activations and writes block column `t`. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

/-- The activations as the region finds them: the batch and sequence axes merged. -/
theorem V_main_v0 (c : Dev nD) : V m c main_v0
    = (shapeCast S24x8192 (m ((c : Thread nD τ).loc main_arg0) : FVec Ideal S24x1x8192 .bf16) shapeCasts_S24x1x8192_S24x8192 :
        FVec Ideal S24x8192 .bf16) := by
  entry_read; rfl

/-- The scales as the region finds them: one row. -/
theorem V_main_v1 (c : Dev nD) : V m c main_v1
    = (shapeCast S1x24576 (m ((c : Thread nD τ).loc main_arg2) : FVec Ideal S24576 .f32) shapeCasts_S24576_S1x24576 :
        FVec Ideal S1x24576 .f32) := by
  entry_read; rfl

/-- The bias as the region finds it: one row. -/
theorem V_main_v2 (c : Dev nD) : V m c main_v2
    = (shapeCast S1x24576 (m ((c : Thread nD τ).loc main_arg3) : FVec Ideal S24576 .f32) shapeCasts_S24576_S1x24576 :
        FVec Ideal S1x24576 .f32) := by
  entry_read; rfl

/-- Merging the batch axis with the unit sequence axis, at an index. -/
theorem merge_at (X : FVec Ideal S24x1x8192 .bf16) (r : Fin 24) (k : Fin 8192) :
    shapeCast S24x8192 X shapeCasts_S24x1x8192_S24x8192 (ix2 r k) = X (ix3 r 0 k) := by
  pointwise

/-- A vector as one row, at an index. -/
theorem row_at (X : FVec Ideal S24576 .f32) (r : Fin 1) (n : Fin 24576) :
    shapeCast S1x24576 X shapeCasts_S24576_S1x24576 (ix2 r n) = X (ix1 n) := by
  pointwise

/-- The three arrays that the host reshapes, read at an index as the arguments they come from. -/
theorem V_v0_at (c : Dev nD) (i : S24x8192.Idx) :
    V m c main_v0 i = (m ((c : Thread nD τ).loc main_arg0) : FVec Ideal S24x1x8192 .bf16) (ix3 (i 0) 0 (i 1)) :=
  (congrFun (V_main_v0 m c) i).trans ((congrArg _ (eq_ix2 i)).trans (merge_at _ (i 0) (i 1)))
theorem V_v1_at (c : Dev nD) (i : S1x24576.Idx) :
    V m c main_v1 i = (m ((c : Thread nD τ).loc main_arg2) : FVec Ideal S24576 .f32) (ix1 (i 1)) :=
  (congrFun (V_main_v1 m c) i).trans ((congrArg _ (eq_ix2 i)).trans (row_at _ (i 0) (i 1)))
theorem V_v2_at (c : Dev nD) (i : S1x24576.Idx) :
    V m c main_v2 i = (m ((c : Thread nD τ).loc main_arg3) : FVec Ideal S24576 .f32) (ix1 (i 1)) :=
  (congrFun (V_main_v2 m c) i).trans ((congrArg _ (eq_ix2 i)).trans (row_at _ (i 0) (i 1)))

/-- What the body stores at block index `y` of point `t` is the linear layer at the array index where `y` sits. -/
theorem point (c : Dev nD) (t : Fin cfg0.N) (y) :
    k0_pay1 (F := Ideal) (iblk m c 0 t) (iblk m c 1 t) (iblk m c 2 t) (iblk m c 3 t) y
    = rows (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, rows]
  blk_point [iblk, idx t]
  · refine (V_v0_at m c _).trans ?_
    blk_ext [idx t]
  · refine (V_v1_at m c _).trans ?_
    blk_ext [idx t]
  · refine (V_v2_at m c _).trans ?_
    blk_ext [idx t]

/-- The array of the pallas_call's result after the run: the linear layer, whole. -/
theorem final (c : Dev nD) : (dats m 0 c).arrAt 4 (cfgs 0).N
    = rows (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

/-- The kernel's result after the last reshape: the linear layer with the unit axis back in its place. -/
theorem result (c : Dev nD) : Pipeline.afterTail₀ cfgs (dats m) 0 (V0 m) [hostOps1] c main_v4
    = (shapeCast S24x1x24576 (rows (m ((c : Thread nD τ).loc main_arg0)) (m ((c : Thread nD τ).loc main_arg1))
        (m ((c : Thread nD τ).loc main_arg2)) (m ((c : Thread nD τ).loc main_arg3))) shapeCasts_S24x24576_S24x1x24576 :
        FVec Ideal S24x1x24576 .bf16) := by
  unfold Pipeline.afterTail₀
  rw [← final m c]
  simp only [List.flatten_cons, List.flatten_nil, List.append_nil, hostOps1]
  after_results
  exact congrArg (fun A => shapeCast S24x1x24576 A shapeCasts_S24x24576_S24x1x24576)
    (Pipeline.withArrays_arr spec0 launch0.win.arr_inj c (V0 m c) (fun w => (dats m 0 c).arrAt w (cfgs 0).N) 4)

end Cert.KernelIdeal.Value

end
-- ==== Proof.ReferenceValue.lean ====
/- What the reference's cast call leaves at the ideal instance: a change of format is the identity there,
   so the decoded weights are the weight codes' values themselves. -/
module

public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

variable (m : (ℓ : Loc nD τ sig) → Buf (Elt Ideal) ℓ)

/-- The linear layer on extended reals, at batch row `i 0` and column `i 2`: `(∑ k, x k * w k) * s + b`. -/
def linear (x : FVec Ideal S24x1x8192 .bf16) (w : FVec Ideal S8192x24576 .fp8e4m3) (s b : FVec Ideal S24576 .f32) :
    FVec Ideal S24x1x24576 .bf16 :=
  fun i => ((∑ k : Fin 8192, x (ix3 (i 0) (i 1) k) * w (ix2 k (i 2))) * s (ix1 (i 2)) + b (ix1 (i 2)) : EReal)

/-- Both windows are whole arrays: block index zero. -/
theorem idx : ∀ t : Fin cfg0.N, win0_0.index t = ![0, 0] ∧ win0_1.index t = ![0, 0] :=
  (by decide +kernel : ∀ t : Fin grid0.N, _)

/-- The one point of the cast call writes the whole array of decoded weights: the weight codes' values. -/
theorem final (c : Dev nD) : (dats m 0 c).arrAt 1 (cfgs 0).N
    = (m ((c : Thread nD τ).loc main_arg1) : FVec Ideal S8192x24576 .fp8e4m3) := by
  refine (dats m 0 c).arrAt_eq_of_after_last 1 t0_0 (by decide +kernel) _ fun j => ?_
  blk_simp; rw [after0_1]; frame_out
  pointwise [k0_pay1]
  blk_point [iblk, V, idx t0_0]

/-- The reference's host operations, read at an index, are the linear layer. -/
theorem term_eq (x : FVec Ideal S24x1x8192 .bf16) (w : FVec Ideal S8192x24576 .bf16) (s b : FVec Ideal S24576 .f32) :
    truncf .bf16 (addf (mulf (Host.dotGeneral dot_S24x1x8192_S8192x24576_S24x1x24576_2_0_01_1_n_n none x w)
        (broadcastInDim S24x1x24576 ![0, 1, 2] bcast_S1x1x24576_S24x1x24576_0_1_2
          (broadcastInDim S1x1x24576 ![2] bcast_S24576_S1x1x24576_2 s)))
        (broadcastInDim S24x1x24576 ![0, 1, 2] bcast_S1x1x24576_S24x1x24576_0_1_2
          (broadcastInDim S1x1x24576 ![2] bcast_S24576_S1x1x24576_2 b))) bitsLt_bf16_f32 = linear x w s b := by
  funext i
  idx_vars i
  pointwise [linear]

/-- The reference's result: the product with the decoded weights, scaled and shifted column by column. -/
theorem result (c : Dev nD) : Pipeline.afterTail₀ cfgs (dats m) 0 (V0 m) [hostOps1] c main_v8
    = linear (m ((c : Thread nD τ).loc main_arg0)) (m ((c : Thread nD τ).loc main_arg1))
        (m ((c : Thread nD τ).loc main_arg2)) (m ((c : Thread nD τ).loc main_arg3)) := by
  unfold Pipeline.afterTail₀
  simp only [List.flatten_cons, List.flatten_nil, List.append_nil, hostOps1]
  after_results
  rw [Pipeline.withArrays_of_ne _ c (V0 m c) _ main_arg0 (by exact (by decide : ∀ w, Pipeline.arrRef spec0 w ≠ main_arg0)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    (Pipeline.withArrays_arr spec0 launch0.win.arr_inj c (V0 m c) (fun w => (dats m 0 c).arrAt w (cfgs 0).N) 1).trans (final m c)]
  exact term_eq _ _ _ _

end Cert.ReferenceIdeal.Value

end
-- ==== Proof.Algebraic.lean ====
/- The kernel and the reference compute the same function over the extended reals. -/
module

public import proofs.«01_k».proof.Defs
public import proofs.«01_k».proof.Proof.KernelValue
public import proofs.«01_k».proof.Proof.ReferenceValue

@[expose] public section

set_option maxRecDepth 16384

noncomputable section

open Idealize.ShloMosaic Idealize.ShloMosaic.TcCoe Idealize.SL.Sem

namespace Cert.Proof

/-- The linear layer over the batch and a unit sequence axis is the one over merged rows, reshaped. -/
theorem linear_eq (x : FVec Ideal Cert.KernelIdeal.S24x1x8192 .bf16) (w : FVec Ideal Cert.KernelIdeal.S8192x24576 .fp8e4m3)
    (s b : FVec Ideal Cert.KernelIdeal.S24576 .f32) :
    Cert.ReferenceIdeal.Value.linear x w s b
      = shapeCast Cert.KernelIdeal.S24x1x24576 (Cert.KernelIdeal.Value.rows x w s b)
          Cert.KernelIdeal.Gen.shapeCasts_S24x24576_S24x1x24576 := by
  funext i
  idx_vars i
  obtain rfl : i1 = 0 := Subsingleton.elim _ _
  pointwise [Cert.ReferenceIdeal.Value.linear, Cert.KernelIdeal.Value.rows]

/-- From equal arguments the kernel and the reference both run and end with equal results. -/
theorem algebraic : Cert.algebraic_KernelIdeal_ReferenceIdeal := by
  pair_intro
  · run_from Cert.KernelIdeal.Gen.run_main m g
    · exact Cert.KernelIdeal.Gen.W_main_arg0 m _ c
    · exact Cert.KernelIdeal.Gen.W_main_arg2 m _ c
    · exact Cert.KernelIdeal.Gen.W_main_arg3 m _ c
  · run_from Cert.ReferenceIdeal.Gen.run_main m' g'
    rotate_left
    · exact (Cert.ReferenceIdeal.Gen.W_main_arg0 m' _ c).trans (hagree c).1
    · exact (Cert.ReferenceIdeal.Gen.W_main_arg2 m' _ c).trans (hagree c).2.2.1
    · exact (Cert.ReferenceIdeal.Gen.W_main_arg3 m' _ c).trans (hagree c).2.2.2
    refine (Cert.ReferenceIdeal.Value.result m' c).trans (Eq.trans ?_ (Cert.KernelIdeal.Value.result m c).symm)
    rw [(hagree c).1, (hagree c).2.1, (hagree c).2.2.1, (hagree c).2.2.2]
    exact linear_eq _ _ _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
